-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048x3 : Shape := ⟨3, ![64, 2048, 3]⟩
abbrev S64x256x3 : Shape := ⟨3, ![64, 256, 3]⟩
abbrev S64x16x128x3 : Shape := ⟨4, ![64, 16, 128, 3]⟩
abbrev S64x128x16x3 : Shape := ⟨4, ![64, 128, 16, 3]⟩
abbrev S64x3x256 : Shape := ⟨3, ![64, 3, 256]⟩
abbrev S64x1x256 : Shape := ⟨3, ![64, 1, 256]⟩
abbrev S1x2048x3 : Shape := ⟨3, ![1, 2048, 3]⟩
abbrev S1x3x256 : Shape := ⟨3, ![1, 3, 256]⟩
abbrev S1x1x256 : Shape := ⟨3, ![1, 1, 256]⟩
abbrev S2048x3 : Shape := ⟨2, ![2048, 3]⟩
abbrev S3x256 : Shape := ⟨2, ![3, 256]⟩
abbrev S2048x256 : Shape := ⟨2, ![2048, 256]⟩
abbrev S2048x512 : Shape := ⟨2, ![2048, 512]⟩
abbrev S2048x1 : Shape := ⟨2, ![2048, 1]⟩
abbrev S64x2x16x512 : Shape := ⟨4, ![64, 2, 16, 512]⟩
abbrev S64x1x16x512 : Shape := ⟨4, ![64, 1, 16, 512]⟩
abbrev S64x16x512 : Shape := ⟨3, ![64, 16, 512]⟩
abbrev S32x2x32x512 : Shape := ⟨4, ![32, 2, 32, 512]⟩
abbrev S32x1x32x512 : Shape := ⟨4, ![32, 1, 32, 512]⟩
abbrev S32x32x512 : Shape := ⟨3, ![32, 32, 512]⟩
abbrev S16x2x64x512 : Shape := ⟨4, ![16, 2, 64, 512]⟩
abbrev S16x1x64x512 : Shape := ⟨4, ![16, 1, 64, 512]⟩
abbrev S16x64x512 : Shape := ⟨3, ![16, 64, 512]⟩
abbrev S8x2x128x512 : Shape := ⟨4, ![8, 2, 128, 512]⟩
abbrev S8x1x128x512 : Shape := ⟨4, ![8, 1, 128, 512]⟩
abbrev S8x128x512 : Shape := ⟨3, ![8, 128, 512]⟩
abbrev S4x2x256x512 : Shape := ⟨4, ![4, 2, 256, 512]⟩
abbrev S4x1x256x512 : Shape := ⟨4, ![4, 1, 256, 512]⟩
abbrev S4x256x512 : Shape := ⟨3, ![4, 256, 512]⟩
abbrev S2x2x512x512 : Shape := ⟨4, ![2, 2, 512, 512]⟩
abbrev S2x1x512x512 : Shape := ⟨4, ![2, 1, 512, 512]⟩
abbrev S2x512x512 : Shape := ⟨3, ![2, 512, 512]⟩
abbrev S1x2x1024x512 : Shape := ⟨4, ![1, 2, 1024, 512]⟩
abbrev S1x1x1024x512 : Shape := ⟨4, ![1, 1, 1024, 512]⟩
abbrev S1x1024x512 : Shape := ⟨3, ![1, 1024, 512]⟩
abbrev S128x16x512 : Shape := ⟨3, ![128, 16, 512]⟩
abbrev S1x16x1 : Shape := ⟨3, ![1, 16, 1]⟩
abbrev S256 : Shape := ⟨1, ![256]⟩
abbrev S1x256 : Shape := ⟨2, ![1, 256]⟩
abbrev S64x256 : Shape := ⟨2, ![64, 256]⟩
abbrev S_ : Shape := ⟨0, ![]⟩
abbrev S64 : Shape := ⟨1, ![64]⟩

abbrev nBuf : Space → Nat
  | .hbm => 22
  | .vmem => 8
  | .smem => 0
  | _ => 0

abbrev bufTy : (tb : Table) → Fin (tcTables nBuf tb) → BufTy
  | .hbm, ⟨0, _⟩ => ⟨S64x2048x3, .f32⟩
  | .hbm, ⟨1, _⟩ => ⟨S64x2048x3, .f32⟩
  | .hbm, ⟨2, _⟩ => ⟨S64x256x3, .f32⟩
  | .hbm, ⟨3, _⟩ => ⟨S64x16x128x3, .f32⟩
  | .hbm, ⟨4, _⟩ => ⟨S64x128x16x3, .f32⟩
  | .hbm, ⟨5, _⟩ => ⟨S64x2048x3, .f32⟩
  | .hbm, ⟨6, _⟩ => ⟨S64x16x128x3, .f32⟩
  | .hbm, ⟨7, _⟩ => ⟨S64x128x16x3, .f32⟩
  | .hbm, ⟨8, _⟩ => ⟨S64x2048x3, .f32⟩
  | .hbm, ⟨9, _⟩ => ⟨S64x3x256, .f32⟩
  | .hbm, ⟨10, _⟩ => ⟨S64x1x256, .f32⟩
  | .hbm, ⟨11, _⟩ => ⟨S64x256, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x3, .f32⟩
  | .local _ .vmem, ⟨3, _⟩ => ⟨S1x2048x3, .f32⟩
  | .local _ .vmem, ⟨4, _⟩ => ⟨S1x3x256, .f32⟩
  | .local _ .vmem, ⟨5, _⟩ => ⟨S1x3x256, .f32⟩
  | .local _ .vmem, ⟨6, _⟩ => ⟨S1x1x256, .f32⟩
  | .local _ .vmem, ⟨7, _⟩ => ⟨S1x1x256, .f32⟩
  | _, _ => ⟨S64x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x2048x3 : Shape := ⟨3, ![64, 2048, 3]⟩
abbrev S64x256x3 : Shape := ⟨3, ![64, 256, 3]⟩
abbrev S64x256x2048 : Shape := ⟨3, ![64, 256, 2048]⟩
abbrev S_ : Shape := ⟨0, ![]⟩
abbrev S64x256 : Shape := ⟨2, ![64, 256]⟩
abbrev S64 : Shape := ⟨1, ![64]⟩

abbrev nBuf : Space → Nat
  | .hbm => 24
  | .vmem => 0
  | .smem => 0
  | _ => 0

abbrev bufTy : (tb : Table) → Fin (tcTables nBuf tb) → BufTy
  | .hbm, ⟨0, _⟩ => ⟨S64x2048x3, .f32⟩
  | .hbm, ⟨1, _⟩ => ⟨S64x2048x3, .f32⟩
  | .hbm, ⟨2, _⟩ => ⟨S64x256x3, .f32⟩
  | .hbm, ⟨3, _⟩ => ⟨S64x256x2048, .f32⟩
  | .hbm, ⟨4, _⟩ => ⟨S64x256x2048, .f32⟩
  | .hbm, ⟨5, _⟩ => ⟨S64x256x2048, .f32⟩
  | .hbm, ⟨6, _⟩ => ⟨S64x256x2048, .f32⟩
  | .hbm, ⟨7, _⟩ => ⟨S64x256x2048, .f32⟩
  | .hbm, ⟨8, _⟩ => ⟨S64x256x2048, .f32⟩
  | .hbm, ⟨9, _⟩ => ⟨S_, .f32⟩
  | .hbm, ⟨10, _⟩ => ⟨S64x256x2048, .f32⟩
  | .hbm, ⟨11, _⟩ => ⟨S64x256x2048, .f32⟩
  | .hbm, ⟨12, _⟩ => ⟨S_, .f32⟩
  | .hbm, ⟨13, _⟩ => ⟨S64x256, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S64x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Proof.Ops.lean ====
/-
  The operations the kernel body is made of, each named once: the projections of the two point clouds, one
  compare-and-exchange of the sorting network (by cutting the rows into pairs of blocks, or by rotating sublanes),
  the sign of a bit of the row's number, the multiplication by signs, and the squared differences summed at the end.
  The body is then the chain `sortRows` of them.
-/
module

public import proofs.«01_k».proof.Proof.Gen.KernelIdeal.Skeleton

@[expose] public section

noncomputable section

namespace Cert.Swd

open Idealize.ShloMosaic Cert.KernelIdeal Cert.KernelIdeal.Gen

variable {F : FTy → Type} [FloatOps F]

/-! ### Exchanges by cutting the rows into pairs of blocks -/

/-- `g` pairs of blocks of `j` rows. -/
abbrev pairs (g j : ℕ) : Shape := ⟨4, ![g, 2, j, 512]⟩

/-- One block of each of `g` pairs. -/
abbrev half (g j : ℕ) : Shape := ⟨4, ![g, 1, j, 512]⟩

/-- One block of each of `g` pairs, without the axis of the pair. -/
abbrev blocks (g j : ℕ) : Shape := ⟨3, ![g, j, 512]⟩

variable {g j : ℕ}

/-- The rows are as many entries as the pairs of blocks they are cut into. -/
theorem casts_pairs (h : g * 2 * j = 2048) : S2048x512.ShapeCasts (pairs g j) := by
  have e : g * (2 * (j * 512)) = 2048 * 512 := by rw [← h]; simp only [Nat.mul_assoc]
  simpa [Shape.ShapeCasts, Shape.numel, Fin.prod_univ_succ] using e

/-- And the pairs of blocks as many as the rows. -/
theorem casts_rows (h : g * 2 * j = 2048) : (pairs g j).ShapeCasts S2048x512 := (casts_pairs h).symm

/-- Dropping the axis of the pair, of length one, keeps the number of entries. -/
theorem casts_drop (g j : ℕ) : (half g j).ShapeCasts (blocks g j) := by
  simp [Shape.ShapeCasts, Shape.numel, Fin.prod_univ_succ]

/-- And so does putting it back. -/
theorem casts_add (g j : ℕ) : (blocks g j).ShapeCasts (half g j) := (casts_drop g j).symm

/-- The first blocks lie within the pairs. -/
theorem slices_low (g j : ℕ) : (pairs g j).Slices ![0, 0, 0, 0] (half g j) :=
  ⟨rfl, by intro a; fin_cases a <;> simp⟩

/-- The second blocks lie within the pairs. -/
theorem slices_high (g j : ℕ) : (pairs g j).Slices ![0, 1, 0, 0] (half g j) :=
  ⟨rfl, by intro a; fin_cases a <;> simp⟩

/-- Two blocks make a pair. -/
theorem joins (g j : ℕ) : Shape.Concatenates [half g j, half g j] (pairs g j) 1 := by
  refine ⟨by simp, ?_, by simp⟩
  intro s hs
  obtain rfl : s = half g j := by simpa using hs
  exact ⟨rfl, by intro b hb; fin_cases b <;> simp_all⟩

/-- The rows as `g` pairs of blocks. -/
def cut (h : g * 2 * j = 2048) (w : FVec F S2048x512 .bf16) : FVec F (pairs g j) .bf16 :=
  shapeCast (pairs g j) w (casts_pairs h)

/-- The first block of every pair. -/
def low (c : FVec F (pairs g j) .bf16) : FVec F (half g j) .bf16 :=
  extractStridedSlice (half g j) ![0, 0, 0, 0] c (slices_low g j)

/-- The second block of every pair. -/
def high (c : FVec F (pairs g j) .bf16) : FVec F (half g j) .bf16 :=
  extractStridedSlice (half g j) ![0, 1, 0, 0] c (slices_high g j)

/-- The axis of the pair dropped. -/
def drop (x : FVec F (half g j) .bf16) : FVec F (blocks g j) .bf16 := shapeCast (blocks g j) x (casts_drop g j)

/-- The axis of the pair put back. -/
def add (x : FVec F (blocks g j) .bf16) : FVec F (half g j) .bf16 := shapeCast (half g j) x (casts_add g j)

/-- The two blocks of every pair put together as rows again. -/
def glue (h : g * 2 * j = 2048) (x y : FVec F (half g j) .bf16) : FVec F S2048x512 .bf16 :=
  shapeCast S2048x512 (concatenate (pairs g j) 1 [⟨half g j, x⟩, ⟨half g j, y⟩] (joins g j)) (casts_rows h)

/-- The smaller of the two blocks of every pair, entry by entry. -/
def least (c : FVec F (pairs g j) .bf16) : FVec F (blocks g j) .bf16 := minimumf (drop (low c)) (drop (high c))

/-- The larger of the two blocks of every pair, entry by entry. -/
def greatest (c : FVec F (pairs g j) .bf16) : FVec F (blocks g j) .bf16 := maximumf (drop (low c)) (drop (high c))

/-- Each row of a pair's first block exchanged with the same row of its second: the smaller entry first. -/
def xch (h : g * 2 * j = 2048) (w : FVec F S2048x512 .bf16) : FVec F S2048x512 .bf16 :=
  glue h (add (least (cut h w))) (add (greatest (cut h w)))

/-! ### Exchanges by rotating the sublanes -/

/-- The rows as 128 groups of 16. -/
def tile (w : FVec F S2048x512 .bf16) : FVec F S128x16x512 .bf16 :=
  shapeCast S128x16x512 w shapeCasts_S2048x512_S128x16x512

/-- Every group of 16 rows turned by `a`. -/
def turn (a : BitVec 32) (v : FVec F S128x16x512 .bf16) : FVec F S128x16x512 .bf16 :=
  dynamicRotate 1 a none v rotates_S128x16x512_d1

/-- The sublane's number, masked by `b`. -/
def laneAnd (b : BitVec 32) : IVec S1x16x1 32 :=
  andi (iota .tc S1x16x1 32 [1] iota_S1x16x1_d1_w32) (broadcast S1x16x1 b)

/-- The rows left by an exchange: the smaller of `v` and `d` where the mask `z` is zero, else the larger of `v` and `u`. -/
def pick (z : IVec S1x16x1 32) (v d u : FVec F S128x16x512 .bf16) : FVec F S2048x512 .bf16 :=
  shapeCast S2048x512
    (select (broadcastTo S128x16x512 (shapeCast S1x16x1 (cmpi .eq z (broadcast S1x16x1 0#32)) shapeCasts_S1x16x1_S1x16x1)
        broadcasts_S1x16x1_S128x16x512) (minimumf v d) (maximumf v u))
    shapeCasts_S128x16x512_S2048x512

/-- Row `r` of a group of 16 exchanged with row `r + b`, for every `r` with the bit `b` clear; `a` is `16 - b`. -/
def roll (a b : BitVec 32) (w : FVec F S2048x512 .bf16) : FVec F S2048x512 .bf16 :=
  pick (laneAnd b) (tile w) (turn a (tile w)) (turn b (tile w))

/-! ### Signs -/

/-- The number, in the order the rows are sorted in, of each physical row. -/
abbrev rowNo : IVec S2048x1 32 := k0_pay2

/-- One where the row's number has no bit of `k`, minus one elsewhere. -/
def sgn (k : BitVec 32) : FVec F S2048x1 .bf16 :=
  truncf .bf16 (select (cmpi .eq (andi rowNo (broadcast S2048x1 k)) (broadcast S2048x1 0#32))
    (broadcast S2048x1 (Scalar.ofBits .f32 0x3F800000#32 : F .f32))
    (broadcast S2048x1 (Scalar.ofBits .f32 0xBF800000#32 : F .f32))) bitsLt_bf16_f32

/-- Every row multiplied by its sign. -/
def scale (w : FVec F S2048x512 .bf16) (s : FVec F S2048x1 .bf16) : FVec F S2048x512 .bf16 :=
  mulf w (broadcastTo S2048x512 s broadcasts_S2048x1_S2048x512)

/-! ### The whole body -/

/-- The projections of the two clouds, side by side. -/
def proj (x y : Vec F S1x2048x3 .f32) (θ : Vec F S1x3x256 .f32) : FVec F S2048x512 .bf16 :=
  truncf .bf16 (concatenate S2048x512 1
    [⟨S2048x256, matmul dot_S2048x3_S3x256_S2048x256_1_0_0_1_n_n none (shapeCast S2048x3 x shapeCasts_S1x2048x3_S2048x3)
        (shapeCast S3x256 θ shapeCasts_S1x3x256_S3x256) (constant S2048x256 .f32 0x00000000#32)⟩,
     ⟨S2048x256, matmul dot_S2048x3_S3x256_S2048x256_1_0_0_1_n_n none (shapeCast S2048x3 y shapeCasts_S1x2048x3_S2048x3)
        (shapeCast S3x256 θ shapeCasts_S1x3x256_S3x256) (constant S2048x256 .f32 0x00000000#32)⟩]
    concatenates_S2048x256_S2048x256_S2048x512_d1) bitsLt_bf16_f32

/-- The exchange on bit `s` of the row's number. -/
def exch : ℕ → FVec F S2048x512 .bf16 → FVec F S2048x512 .bf16
  | 0 => xch (g := 64) (j := 16) rfl
  | 1 => xch (g := 32) (j := 32) rfl
  | 2 => xch (g := 16) (j := 64) rfl
  | 3 => xch (g := 8) (j := 128) rfl
  | 4 => xch (g := 4) (j := 256) rfl
  | 5 => xch (g := 2) (j := 512) rfl
  | 6 => xch (g := 1) (j := 1024) rfl
  | 7 => roll 15#32 1#32
  | 8 => roll 14#32 2#32
  | 9 => roll 12#32 4#32
  | _ => roll 8#32 8#32

/-- The exchanges on bits `n - 1`, …, `0`, in that order. -/
def merge : ℕ → FVec F S2048x512 .bf16 → FVec F S2048x512 .bf16
  | 0, w => w
  | n + 1, w => merge n (exch n w)

/-- Every row's sign changed from that of the bit `k` to that of the bit `k'`. -/
def resign (k k' : BitVec 32) (w : FVec F S2048x512 .bf16) : FVec F S2048x512 .bf16 := scale w (mulf (sgn k) (sgn k'))

/-- The bitonic sort of the rows. -/
def sortRows (w : FVec F S2048x512 .bf16) : FVec F S2048x512 .bf16 :=
  merge 11 <| (scale · (sgn 1024#32)) <| merge 10 <| resign 512#32 1024#32 <| merge 9 <| resign 256#32 512#32 <|
  merge 8 <| resign 128#32 256#32 <| merge 7 <| resign 64#32 128#32 <| merge 6 <| resign 32#32 64#32 <|
  merge 5 <| resign 16#32 32#32 <| merge 4 <| resign 8#32 16#32 <| merge 3 <| resign 4#32 8#32 <|
  merge 2 <| resign 2#32 4#32 <| merge 1 <| (scale · (sgn 2#32)) w

/-- The squared differences of the sorted columns, summed over the rows. -/
def total (w : FVec F S2048x512 .bf16) : FVec F S1x1x256 .f32 :=
  let v := extf .f32 w bitsLt_bf16_f32
  let d : FVec F S2048x256 .f32 := subf (extractStridedSlice S2048x256 ![0, 0] v slices_S2048x512_o0_0_S2048x256)
    (extractStridedSlice S2048x256 ![0, 256] v slices_S2048x512_o0_256_S2048x256)
  shapeCast S1x1x256 (shapeCast S1x256
    (multiReduction .add [0] S256 (mulf d d) 0x00000000#32 reduces_S2048x256_S256 (.inl rfl) rfl) shapeCasts_S256_S1x256)
    shapeCasts_S1x256_S1x1x256

end Cert.Swd
-- ==== Proof.Exchange.lean ====
/-
  One exchange, entry by entry: whichever way it is carried out — by cutting the rows into pairs of blocks or by turning
  the sublanes — the exchange at distance `2 ^ e` leaves the smaller of rows `r` and `r + 2 ^ e` in row `r` and the larger
  in row `r + 2 ^ e`, for every row `r` whose bit `e` is clear.
-/
module

public import proofs.«01_k».proof.Proof.Ops
public import Idealize.ShloMosaic.Lib.Pointwise
public import Idealize.ShloMosaic.Lib.Pipeline.Value
public import Idealize.ShloMosaic.Lib.SortNet.Sorts

@[expose] public section

noncomputable section

namespace Cert.Swd

open Idealize.ShloMosaic Cert.KernelIdeal Cert.KernelIdeal.Gen

/-- `f` exchanges the rows at distance `2 ^ e`. -/
def Exchanges (e : ℕ) (f : FVec Ideal S2048x512 .bf16 → FVec Ideal S2048x512 .bf16) : Prop :=
  ∀ (w : FVec Ideal S2048x512 .bf16) (r r' : Fin 2048) (q : Fin 512), r.val &&& 2 ^ e = 0 → r'.val = r.val + 2 ^ e →
    f w (ix2 r q) = min (w (ix2 r q) : EReal) (w (ix2 r' q)) ∧ f w (ix2 r' q) = max (w (ix2 r q) : EReal) (w (ix2 r' q))

/-- A row whose bit `e` is clear, split at that bit. -/
theorem clear_split {r e : ℕ} (h : r &&& 2 ^ e = 0) : r = 2 * (r / 2 ^ e / 2) * 2 ^ e + r % 2 ^ e := by
  rw [SortNet.and_two_pow_eq_zero_iff_testBit, Nat.testBit_eq_decide_div_mod_eq, decide_eq_false_iff_not] at h
  have h1 : r / 2 ^ e = 2 * (r / 2 ^ e / 2) := by omega
  rw [← h1, Nat.mul_comm]
  exact (Nat.div_add_mod r (2 ^ e)).symm

section Blocks

variable {g j : ℕ}

/-- The rows cut into pairs of blocks, at an index. -/
theorem cut_apply (h : g * 2 * j = 2048) (w : FVec Ideal S2048x512 .bf16) (a : Fin g) (b : Fin 2) (c : Fin j) (q : Fin 512)
    (r : Fin 2048) (hr : r.val = (2 * a.val + b.val) * j + c.val) : cut h w (ix4 a b c q) = w (ix2 r q) := by
  refine shapeCast_apply w _ _ _ ?_
  rw [rowMajor_val2 _ 512 rfl, rowMajor_val4 _ (2 * (j * 512)) (j * 512) 512 rfl rfl rfl]
  simp only [ix2_0, ix2_1, ix4_0, ix4_1, ix4_2, ix4_3, hr]
  simp only [Nat.add_mul, Nat.mul_add, Nat.mul_assoc, Nat.mul_comm, Nat.mul_left_comm]

/-- One block without the axis of the pair, at an index. -/
theorem drop_apply (x : FVec Ideal (half g j) .bf16) (a : Fin g) (c : Fin j) (q : Fin 512) :
    drop x (ix3 a c q) = x (ix4 a 0 c q) := by
  refine shapeCast_apply x _ _ _ ?_
  rw [rowMajor_val3 _ (j * 512) 512 rfl rfl, rowMajor_val4 _ (1 * (j * 512)) (j * 512) 512 rfl rfl rfl]
  simp

/-- One block with the axis of the pair put back, at an index. -/
theorem add_apply (x : FVec Ideal (blocks g j) .bf16) (a : Fin g) (c : Fin j) (q : Fin 512) :
    add x (ix4 a 0 c q) = x (ix3 a c q) := by
  refine shapeCast_apply x _ _ _ ?_
  rw [rowMajor_val3 _ (j * 512) 512 rfl rfl, rowMajor_val4 _ (1 * (j * 512)) (j * 512) 512 rfl rfl rfl]
  simp

/-- The first block of every pair, at an index. -/
theorem low_apply (x : FVec Ideal (pairs g j) .bf16) (a : Fin g) (c : Fin j) (q : Fin 512) :
    low x (ix4 a 0 c q) = x (ix4 a 0 c q) := by
  refine extractStridedSlice_apply _ x _ _ _ ?_
  intro b; fin_cases b <;> simp

/-- The second block of every pair, at an index. -/
theorem high_apply (x : FVec Ideal (pairs g j) .bf16) (a : Fin g) (c : Fin j) (q : Fin 512) :
    high x (ix4 a 0 c q) = x (ix4 a 1 c q) := by
  refine extractStridedSlice_apply _ x _ _ _ ?_
  intro b; fin_cases b <;> simp

/-- The rows put together from the two blocks of every pair: a row of a first block. -/
theorem glue_apply_low (h : g * 2 * j = 2048) (x y : FVec Ideal (half g j) .bf16) (a : Fin g) (c : Fin j) (q : Fin 512)
    (r : Fin 2048) (hr : r.val = 2 * a.val * j + c.val) : glue h x y (ix2 r q) = x (ix4 a 0 c q) := by
  refine (shapeCast_apply _ (casts_rows h) _ (ix4 a 0 c q) ?_).trans ?_
  · rw [rowMajor_val2 _ 512 rfl, rowMajor_val4 _ (2 * (j * 512)) (j * 512) 512 rfl rfl rfl]
    simp only [ix2_0, ix2_1, ix4_0, ix4_1, ix4_2, ix4_3, hr]
    simp [Nat.add_mul, Nat.mul_add, Nat.mul_assoc, Nat.mul_comm, Nat.mul_left_comm]
  · exact concatenate_pair_apply_left 1 x y (joins g j) _ rfl _ (by intro b; fin_cases b <;> rfl)

/-- The rows put together from the two blocks of every pair: a row of a second block. -/
theorem glue_apply_high (h : g * 2 * j = 2048) (x y : FVec Ideal (half g j) .bf16) (a : Fin g) (c : Fin j) (q : Fin 512)
    (r : Fin 2048) (hr : r.val = (2 * a.val + 1) * j + c.val) : glue h x y (ix2 r q) = y (ix4 a 0 c q) := by
  refine (shapeCast_apply _ (casts_rows h) _ (ix4 a 1 c q) ?_).trans ?_
  · rw [rowMajor_val2 _ 512 rfl, rowMajor_val4 _ (2 * (j * 512)) (j * 512) 512 rfl rfl rfl]
    simp only [ix2_0, ix2_1, ix4_0, ix4_1, ix4_2, ix4_3, hr]
    simp [Nat.add_mul, Nat.mul_add, Nat.mul_assoc, Nat.mul_comm, Nat.mul_left_comm]
  · exact concatenate_pair_apply_right 1 x y (joins g j) _ rfl rfl _
      (by intro b hb; fin_cases b <;> first | rfl | exact absurd rfl hb) rfl

/-- The exchange of the two blocks of every pair exchanges the rows at the distance of a block. -/
theorem exchanges_xch (e : ℕ) (hj : j = 2 ^ e) (h : g * 2 * j = 2048) : Exchanges e (xch h) := by
  subst hj
  intro w r r' q hr hr'
  have hs := clear_split hr
  have ha : r.val / 2 ^ e / 2 < g := by
    have := r.isLt
    rw [Nat.div_div_eq_div_mul, Nat.div_lt_iff_lt_mul (by positivity), Nat.mul_comm (2 ^ e), ← Nat.mul_assoc, h]
    exact this
  have hc : r.val % 2 ^ e < 2 ^ e := Nat.mod_lt _ (by positivity)
  have hs' : r'.val = (2 * (r.val / 2 ^ e / 2) + 1) * 2 ^ e + r.val % 2 ^ e := by rw [Nat.add_mul]; omega
  have l := cut_apply h w ⟨_, ha⟩ 0 ⟨_, hc⟩ q r (by simpa using hs)
  have u := cut_apply h w ⟨_, ha⟩ 1 ⟨_, hc⟩ q r' (by simpa using hs')
  constructor
  · refine (glue_apply_low h _ _ ⟨_, ha⟩ ⟨_, hc⟩ q r hs).trans ?_
    rw [add_apply]
    show min (drop (low (cut h w)) _ : EReal) (drop (high (cut h w)) _) = _
    rw [drop_apply, drop_apply, low_apply, high_apply, l, u]
  · refine (glue_apply_high h _ _ ⟨_, ha⟩ ⟨_, hc⟩ q r' hs').trans ?_
    rw [add_apply]
    show max (drop (low (cut h w)) _ : EReal) (drop (high (cut h w)) _) = _
    rw [drop_apply, drop_apply, low_apply, high_apply, l, u]

end Blocks

section Sublanes

/-- The rows as 128 groups of 16, at an index. -/
theorem tile_apply (w : FVec Ideal S2048x512 .bf16) (a : Fin 128) (c : Fin 16) (q : Fin 512) (r : Fin 2048)
    (hr : r.val = 16 * a.val + c.val) : tile w (ix3 a c q) = w (ix2 r q) := by
  refine shapeCast_apply w _ _ _ ?_
  rw [rowMajor_val2 _ 512 rfl, rowMajor_val3 _ (16 * 512) 512 rfl rfl]
  simp only [ix2_0, ix2_1, ix3_0, ix3_1, ix3_2, hr]
  omega

/-- A turned group of rows, at an index. -/
theorem turn_apply (n : BitVec 32) (v : FVec Ideal S128x16x512 .bf16) (a : Fin 128) (c c' : Fin 16) (q : Fin 512)
    (h : c'.val = (c.val + 16 - n.toNat % 16) % 16) : turn n v (ix3 a c q) = v (ix3 a c' q) := by
  unfold turn
  rw [Pointwise.dynamicRotate_apply, Shape.Idx.norm3]
  congr 1
  refine (ix3_inj _ _ _ _ _ _).mpr ⟨rfl, Fin.ext ?_, rfl⟩
  exact h.symm

/-- The rows left by an exchange within the groups of 16, at an index. -/
theorem pick_apply (z : IVec S1x16x1 32) (v d u : FVec Ideal S128x16x512 .bf16) (a : Fin 128) (c : Fin 16) (q : Fin 512)
    (r : Fin 2048) (hr : r.val = 16 * a.val + c.val) :
    pick z v d u (ix2 r q) =
      if z (ix3 0 c 0) = 0#32 then min (v (ix3 a c q) : EReal) (d (ix3 a c q)) else max (v (ix3 a c q) : EReal) (u (ix3 a c q)) := by
  refine (shapeCast_apply _ shapeCasts_S128x16x512_S2048x512 _ (ix3 a c q) ?_).trans ?_
  · rw [rowMajor_val2 _ 512 rfl, rowMajor_val3 _ (16 * 512) 512 rfl rfl]
    simp only [ix2_0, ix2_1, ix3_0, ix3_1, ix3_2, hr]
    omega
  · have hb := broadcastTo_apply (shapeCast S1x16x1 (cmpi .eq z (broadcast S1x16x1 0#32)) shapeCasts_S1x16x1_S1x16x1)
      broadcasts_S1x16x1_S128x16x512 (ix3 a c q) (ix3 0 c 0) (by intro b; fin_cases b <;> rfl)
    rw [shapeCast_self] at hb
    pointwise [hb]
    by_cases hz : z (ix3 0 c 0) = 0#32
    · simp [hz, IntOp.cmpi, Scalar.select]
    · simp [hz, IntOp.cmpi, Scalar.select, beq_eq_false_iff_ne.mpr hz]

/-- The sublane's number masked, at an index. -/
theorem laneAnd_apply (b : BitVec 32) (c : Fin 16) : laneAnd b (ix3 0 c 0) = BitVec.ofNat 32 c.val &&& b := by
  unfold laneAnd
  pointwise
  rfl

/-- What turning the 16 sublanes by `2 ^ e` either way does to the numbers of two sublanes at that distance. -/
theorem sublanes : ∀ (e : Fin 4) (c : Fin 16), c.val &&& 2 ^ e.val = 0 → ∃ h : c.val + 2 ^ e.val < 16,
    BitVec.ofNat 32 c.val &&& BitVec.ofNat 32 (2 ^ e.val) = 0#32 ∧
    BitVec.ofNat 32 (c.val + 2 ^ e.val) &&& BitVec.ofNat 32 (2 ^ e.val) ≠ 0#32 ∧
    c.val + 2 ^ e.val = (c.val + 16 - (BitVec.ofNat 32 (16 - 2 ^ e.val)).toNat % 16) % 16 ∧
    c.val = (c.val + 2 ^ e.val + 16 - (BitVec.ofNat 32 (2 ^ e.val)).toNat % 16) % 16 := by
  decide

/-- The exchange by turning the sublanes exchanges the rows at that distance. -/
theorem exchanges_roll (e : Fin 4) :
    Exchanges e.val (roll (BitVec.ofNat 32 (16 - 2 ^ e.val)) (BitVec.ofNat 32 (2 ^ e.val))) := by
  intro w r r' q hr hr'
  have ha : r.val / 16 < 128 := by omega
  have hc : r.val % 16 < 16 := by omega
  have hcl : r.val % 16 &&& 2 ^ e.val = 0 := by
    rw [SortNet.and_two_pow_eq_zero_iff_testBit] at hr ⊢
    rw [show (16 : ℕ) = 2 ^ 4 from rfl, Nat.testBit_mod_two_pow, hr, Bool.and_false]
  obtain ⟨hlt, h0, h1, hd, hu⟩ := sublanes e ⟨_, hc⟩ hcl
  have e0 : r.val = 16 * (⟨_, ha⟩ : Fin 128).val + (⟨_, hc⟩ : Fin 16).val := by simp only; omega
  have e1 : r'.val = 16 * (⟨_, ha⟩ : Fin 128).val + (⟨_, hlt⟩ : Fin 16).val := by simp only; omega
  unfold roll
  constructor
  · rw [pick_apply _ _ _ _ ⟨_, ha⟩ ⟨_, hc⟩ q r e0, laneAnd_apply, if_pos h0, turn_apply _ _ _ _ ⟨_, hlt⟩ q hd,
      tile_apply w _ _ q r e0, tile_apply w _ _ q r' e1]
  · rw [pick_apply _ _ _ _ ⟨_, ha⟩ ⟨_, hlt⟩ q r' e1, laneAnd_apply, if_neg h1, turn_apply _ _ _ _ ⟨_, hc⟩ q hu,
      tile_apply w _ _ q r e0, tile_apply w _ _ q r' e1, max_comm]

end Sublanes

/-- The bit of the physical row's number that bit `s` of the logical one is. -/
def rot (s : ℕ) : ℕ := if s < 7 then s + 4 else s - 7

/-- The body's exchange on bit `s` of the logical number exchanges the rows that differ in the physical bit `rot s`. -/
theorem exchanges_exch : ∀ s : ℕ, s < 11 → Exchanges (rot s) (exch s)
  | 0, _ | 1, _ | 2, _ | 3, _ | 4, _ | 5, _ | 6, _ => exchanges_xch _ rfl rfl
  | 7, _ => exchanges_roll 0
  | 8, _ => exchanges_roll 1
  | 9, _ => exchanges_roll 2
  | 10, _ => exchanges_roll 3

end Cert.Swd
-- ==== Proof.Order.lean ====
/-
  The order the rows are sorted in. Row `i` of the sorted order lies in physical row `16 * (i % 128) + i / 128`; a bit of
  the one number is a bit of the other, and the body's row numbers and signs are those of the sorted order.
-/
module

public import proofs.«01_k».proof.Proof.Exchange

@[expose] public section

noncomputable section

namespace Cert.Swd

open Idealize.ShloMosaic Cert.KernelIdeal Cert.KernelIdeal.Gen

/-- The physical row of row `i` of the sorted order. -/
def phys (i : Fin (2 ^ 11)) : Fin 2048 := ⟨16 * (i.val % 128) + i.val / 128, by have := i.isLt; omega⟩

/-- The row of the sorted order that lies in physical row `r`. -/
def logical (r : Fin 2048) : Fin (2 ^ 11) := ⟨128 * (r.val % 16) + r.val / 16, by have := r.isLt; omega⟩

/-- Physical rows and rows of the sorted order correspond one to one. -/
def physEquiv : Fin (2 ^ 11) ≃ Fin 2048 where
  toFun := phys
  invFun := logical
  left_inv i := Fin.ext (by have := i.isLt; simp only [phys, logical]; omega)
  right_inv r := Fin.ext (by have := r.isLt; simp only [phys, logical]; omega)

/-- A number below `2 ^ n` with bit `s` clear stays below `2 ^ n` when the bit is set. -/
theorem set_lt {x s n : ℕ} (hs : s < n) (hx : x < 2 ^ n) (h : x &&& 2 ^ s = 0) : x + 2 ^ s < 2 ^ n := by
  rw [← SortNet.xor_two_pow_of_clear x s h]
  exact Nat.xor_lt_two_pow hx (Nat.pow_lt_pow_right (by decide) hs)

/-- Rows of the sorted order that differ in bit `s` lie in physical rows that differ in bit `rot s`. -/
theorem phys_pair (s : ℕ) (hs : s < 11) (i i' : Fin (2 ^ 11)) (hi : i.val &&& 2 ^ s = 0) (hi' : i'.val = i.val + 2 ^ s) :
    (phys i).val &&& 2 ^ rot s = 0 ∧ (phys i').val = (phys i).val + 2 ^ rot s := by
  obtain ⟨a, b, ha, hb, e⟩ : ∃ a b, a < 2 ^ 7 ∧ b < 2 ^ 4 ∧ i.val = 2 ^ 7 * b + a :=
    ⟨i.val % 128, i.val / 128, by omega, by have := i.isLt; omega, by omega⟩
  have e1 : (phys i).val = 2 ^ 4 * a + b := by simp only [phys]; omega
  have e2 : (phys i').val = 16 * (i'.val % 128) + i'.val / 128 := rfl
  rw [SortNet.and_two_pow_eq_zero_iff_testBit, e, Nat.testBit_two_pow_mul_add _ ha] at hi
  rw [SortNet.and_two_pow_eq_zero_iff_testBit, e2, e1, Nat.testBit_two_pow_mul_add _ hb, hi', e, rot]
  by_cases h7 : s < 7
  · rw [if_pos h7, ← SortNet.and_two_pow_eq_zero_iff_testBit] at hi
    have hlt := set_lt h7 ha hi
    rw [if_pos h7, if_neg (by omega), Nat.add_sub_cancel, ← SortNet.and_two_pow_eq_zero_iff_testBit, pow_add]
    exact ⟨hi, by omega⟩
  · rw [if_neg h7, ← SortNet.and_two_pow_eq_zero_iff_testBit] at hi
    have hp : 2 ^ s = 2 ^ 7 * 2 ^ (s - 7) := by rw [← pow_add]; congr 1; omega
    rw [if_neg h7, if_pos (by omega), ← SortNet.and_two_pow_eq_zero_iff_testBit, hp]
    exact ⟨hi, by omega⟩

/-- The number the body gives a physical row is that of the sorted order. -/
theorem rowNo_phys : ∀ i : Fin (2 ^ 11), rowNo (ix2 (phys i) 0) = BitVec.ofNat 32 i.val := by
  decide +kernel

/-- The sign of bit `l` of a row's number. -/
def sign (l : ℕ) (i : Fin (2 ^ 11)) : EReal := if i.val &&& 2 ^ l = 0 then 1 else -1

/-- A sign is one or minus one. -/
theorem sign_cases (l : ℕ) (i : Fin (2 ^ 11)) : sign l i = 1 ∨ sign l i = -1 := by
  unfold sign; split <;> simp

/-- The body's signs are those of the sorted order. -/
theorem sgn_phys (l : ℕ) (hl : l < 32) (i : Fin (2 ^ 11)) :
    (sgn (F := Ideal) (BitVec.ofNat 32 (2 ^ l)) (ix2 (phys i) 0) : EReal) = sign l i := by
  unfold sgn
  pointwise [rowNo_phys]
  have hm : Ideal.ofBits FTy.f32 0xBF800000#32 = -1 := by
    rw [show (-1 : EReal) = ((-(1 : ℝ) : ℝ) : EReal) by rw [EReal.coe_neg, EReal.coe_one]]
    simp [Ideal.ofBits, Ideal.ieee, -EReal.coe_mul, -EReal.coe_neg]; norm_num
  have hz : IntOp.andi (BitVec.ofNat 32 i.val) (BitVec.ofNat 32 (2 ^ l)) = BitVec.ofNat 32 (i.val &&& 2 ^ l) := by
    rw [BitVec.ofNat_and]; rfl
  have hlt : i.val &&& 2 ^ l < 2 ^ 32 := lt_of_le_of_lt Nat.and_le_left (by have := i.isLt; omega)
  rw [hm, hz]
  unfold sign
  by_cases h : i.val &&& 2 ^ l = 0
  · simp [h, IntOp.cmpi, Scalar.select]
  · have hne : BitVec.ofNat 32 (i.val &&& 2 ^ l) ≠ 0#32 := by
      intro e
      have e' := congrArg BitVec.toNat e
      rw [BitVec.toNat_ofNat, Nat.mod_eq_of_lt hlt] at e'
      exact h e'
    rw [if_neg h]
    unfold Scalar.select IntOp.cmpi
    simp only [beq_eq_false_iff_ne.mpr hne]
    rfl

/-- A multiplication by signs, at an index. -/
theorem scale_apply (w : FVec Ideal S2048x512 .bf16) (s : FVec Ideal S2048x1 .bf16) (r : Fin 2048) (q : Fin 512) :
    scale w s (ix2 r q) = (w (ix2 r q) * s (ix2 r 0) : EReal) := by
  unfold scale
  pointwise

end Cert.Swd
-- ==== Proof.Sorted.lean ====
/-
  The body's chain of exchanges and signs is Batcher's bitonic network: read in the sorted order, the rows at every stage
  are the network's, each times the sign of its number; so what the chain leaves is what the network leaves.
-/
module

public import proofs.«01_k».proof.Proof.Order

@[expose] public section

noncomputable section

namespace Cert.Swd

open Idealize.ShloMosaic Cert.KernelIdeal Cert.KernelIdeal.Gen SortNet

/-- One column of the rows for each of the 512, in the sorted order. -/
abbrev Columns : Type := Fin 512 → Fin (2 ^ 11) → EReal

/-- The columns of the rows. -/
def columns (w : FVec Ideal S2048x512 .bf16) : Columns := fun q i => w (ix2 (phys i) q)

/-- The rows are the columns `V`, each entry times the sign of bit `l` of its row's number. -/
def Holds (l : ℕ) (w : FVec Ideal S2048x512 .bf16) (V : Columns) : Prop :=
  ∀ q i, columns w q i = sign l i * V q i

/-- The stages of one merge on bits `n - 1`, …, `0`, the direction of each pair given by bit `l` of its number. -/
def mergeNet (l n : ℕ) : Network (2 ^ 11) :=
  (List.range n).reverse.flatMap fun s => stage 11 s fun i => (decide (i.val &&& 2 ^ l = 0)) == false

/-- The first `n` merges of the sort. -/
def netTo (n : ℕ) : Network (2 ^ 11) := (List.range n).flatMap fun l => mergeNet (l + 1) (l + 1)

/-- A merge is its first stage and then a merge on one bit fewer. -/
theorem mergeNet_succ (l n : ℕ) :
    mergeNet l (n + 1) = (stage 11 n fun i => (decide (i.val &&& 2 ^ l = 0)) == false) ++ mergeNet l n := by
  simp [mergeNet, List.range_succ]

/-- One merge more. -/
theorem netTo_succ (n : ℕ) : netTo (n + 1) = netTo n ++ mergeNet (n + 1) (n + 1) := by
  simp [netTo, List.range_succ]

/-- The library's sorting network of 2048 rows is eleven merges. -/
theorem sortNet_eq : sortNet 11 false = netTo 11 := rfl

/-- The two rows an exchange compares have the same sign, that of a bit other than the one they differ in. -/
theorem sign_partner {l s : ℕ} (hs : s < 11) (hne : s ≠ l) (i : Fin (2 ^ 11)) : sign l (partner 11 s i) = sign l i := by
  have e : (partner 11 s i).val &&& 2 ^ l = 0 ↔ i.val &&& 2 ^ l = 0 := by
    rw [and_two_pow_eq_zero_iff_testBit, and_two_pow_eq_zero_iff_testBit, partner_val hs, Nat.testBit_xor,
      Nat.testBit_two_pow, decide_eq_false hne, Bool.xor_false]
  exact if_congr e rfl rfl

/-- An exchange is one stage of the network: where the sign is one it puts the smaller entry first, and where the sign is
    minus one the larger. -/
theorem Holds.exch {l s : ℕ} (hs : s < l) (hl : l ≤ 11) {w : FVec Ideal S2048x512 .bf16} {V : Columns} (h : Holds l w V) :
    Holds l (Swd.exch s w) fun q =>
      Network.apply (stage 11 s fun i => (decide (i.val &&& 2 ^ l = 0)) == false) (V q) := by
  have hs' : s < 11 := by omega
  have anti : Antitone (fun x : EReal => -x) := fun a b hab => EReal.neg_le_neg_iff.mpr hab
  -- the two rows of a pair
  have key : ∀ q (i : Fin (2 ^ 11)), i.val &&& 2 ^ s = 0 →
      (columns (Swd.exch s w) q i = sign l i *
          Network.apply (stage 11 s fun i => (decide (i.val &&& 2 ^ l = 0)) == false) (V q) i) ∧
        columns (Swd.exch s w) q (partner 11 s i) = sign l (partner 11 s i) *
          Network.apply (stage 11 s fun i => (decide (i.val &&& 2 ^ l = 0)) == false) (V q) (partner 11 s i) := by
    intro q i hi
    obtain ⟨hc, hd⟩ := phys_pair s hs' i (partner 11 s i) hi (partner_val_of_clear hs' i hi)
    obtain ⟨e1, e2⟩ := exchanges_exch s hs' w (phys i) (phys (partner 11 s i)) q hc hd
    obtain ⟨n1, n2⟩ := apply_stage hs' (fun i => (decide (i.val &&& 2 ^ l = 0)) == false) (V q) i hi
    have v1 : (w (ix2 (phys i) q) : EReal) = sign l i * V q i := h q i
    have v2 : (w (ix2 (phys (partner 11 s i)) q) : EReal) = sign l i * V q (partner 11 s i) := by
      rw [← sign_partner hs' (by omega : s ≠ l) i]; exact h q _
    rw [v1, v2] at e1 e2
    rw [n1, n2, sign_partner hs' (by omega : s ≠ l)]
    show (Swd.exch s w (ix2 (phys i) q) : EReal) = _ ∧ (Swd.exch s w (ix2 (phys (partner 11 s i)) q) : EReal) = _
    rw [e1, e2]
    unfold sign
    by_cases hb : i.val &&& 2 ^ l = 0
    · simp [hb]
    · simp [hb, anti.map_max, anti.map_min]
  intro q i
  by_cases hi : i.val &&& 2 ^ s = 0
  · exact (key q i hi).1
  · have := (key q (partner 11 s i) (partner_and_of_set hs' i hi)).2
    rwa [partner_partner hs'] at this

/-- The exchanges on bits `n - 1`, …, `0` are the stages of a merge. -/
theorem Holds.merge {l : ℕ} (hl : l ≤ 11) : ∀ {n : ℕ}, n ≤ l → ∀ {w : FVec Ideal S2048x512 .bf16} {V : Columns},
    Holds l w V → Holds l (Swd.merge n w) fun q => Network.apply (mergeNet l n) (V q)
  | 0, _, _, _, h => h
  | n + 1, hn, w, V, h => by
    have := Holds.merge hl (n := n) (by omega) (h.exch (s := n) (by omega) hl)
    intro q i
    simp only [mergeNet_succ, Network.apply_append]
    exact this q i

/-- One whole merge carries the network on by one merge. -/
theorem Holds.phase {n : ℕ} (hn : n < 11) {w : FVec Ideal S2048x512 .bf16} {V : Columns}
    (h : Holds (n + 1) w fun q => Network.apply (netTo n) (V q)) :
    Holds (n + 1) (Swd.merge (n + 1) w) fun q => Network.apply (netTo (n + 1)) (V q) := by
  intro q i
  simp only [netTo_succ, Network.apply_append]
  exact h.merge (by omega) le_rfl q i

/-- Multiplying by the signs of bits `l` and `l + 1` takes the signs of the one away and puts those of the other on. -/
theorem Holds.resign {l : ℕ} (hl : l < 31) {k k' : BitVec 32} (hk : k = BitVec.ofNat 32 (2 ^ l))
    (hk' : k' = BitVec.ofNat 32 (2 ^ (l + 1))) {w : FVec Ideal S2048x512 .bf16} {V : Columns} (h : Holds l w V) :
    Holds (l + 1) (Swd.resign k k' w) V := by
  subst hk hk'
  intro q i
  have hw : (w (ix2 (phys i) q) : EReal) = sign l i * V q i := h q i
  unfold columns Swd.resign
  rw [scale_apply, hw]
  show sign l i * V q i * (sgn (F := Ideal) (BitVec.ofNat 32 (2 ^ l)) (ix2 (phys i) 0) *
    sgn (F := Ideal) (BitVec.ofNat 32 (2 ^ (l + 1))) (ix2 (phys i) 0) : EReal) = _
  rw [sgn_phys l (by omega), sgn_phys (l + 1) (by omega)]
  rcases sign_cases l i with e | e <;> simp [e, mul_comm]

/-- Multiplying by the signs of bit `1` puts them on. -/
theorem holds_start (w : FVec Ideal S2048x512 .bf16) : Holds 1 (scale w (sgn 2#32)) (columns w) := by
  intro q i
  unfold columns
  rw [scale_apply, mul_comm]
  exact congrArg (· * _) (sgn_phys 1 (by omega) i)

/-- No row's number has a bit `11`. -/
theorem sign_last (i : Fin (2 ^ 11)) : sign 11 i = 1 :=
  if_pos ((and_two_pow_eq_zero_iff_testBit _ _).mpr (Nat.testBit_lt_two_pow i.isLt))

/-- Multiplying by the signs of bit `10` takes them away, and no row's number has a bit `11`. -/
theorem Holds.last {w : FVec Ideal S2048x512 .bf16} {V : Columns} (h : Holds 10 w V) :
    Holds 11 (scale w (sgn 1024#32)) V := by
  intro q i
  have hw : (w (ix2 (phys i) q) : EReal) = sign 10 i * V q i := h q i
  have hs : (sgn (F := Ideal) 1024#32 (ix2 (phys i) 0) : EReal) = sign 10 i := sgn_phys 10 (by omega) i
  unfold columns
  rw [scale_apply, hw, hs, sign_last]
  rcases sign_cases 10 i with e | e <;> simp [e]

/-- The body's chain leaves every column, read in the sorted order, as the bitonic network does. -/
theorem sortRows_columns (w : FVec Ideal S2048x512 .bf16) (q : Fin 512) :
    columns (sortRows w) q = Network.apply (sortNet 11 false) (columns w q) := by
  have h1 := (holds_start w).phase (n := 0) (V := columns w) (by omega)
  have h2 := (h1.resign (by omega) (k := 2#32) (k' := 4#32) rfl rfl).phase (by omega)
  have h3 := (h2.resign (by omega) (k := 4#32) (k' := 8#32) rfl rfl).phase (by omega)
  have h4 := (h3.resign (by omega) (k := 8#32) (k' := 16#32) rfl rfl).phase (by omega)
  have h5 := (h4.resign (by omega) (k := 16#32) (k' := 32#32) rfl rfl).phase (by omega)
  have h6 := (h5.resign (by omega) (k := 32#32) (k' := 64#32) rfl rfl).phase (by omega)
  have h7 := (h6.resign (by omega) (k := 64#32) (k' := 128#32) rfl rfl).phase (by omega)
  have h8 := (h7.resign (by omega) (k := 128#32) (k' := 256#32) rfl rfl).phase (by omega)
  have h9 := (h8.resign (by omega) (k := 256#32) (k' := 512#32) rfl rfl).phase (by omega)
  have h10 := (h9.resign (by omega) (k := 512#32) (k' := 1024#32) rfl rfl).phase (by omega)
  have h11 := h10.last.phase (by omega)
  funext i
  have := h11 q i
  rw [sign_last, one_mul] at this
  exact this

/-- The sorted columns rise. -/
theorem sortRows_monotone (w : FVec Ideal S2048x512 .bf16) (q : Fin 512) : Monotone (columns (sortRows w) q) := by
  rw [sortRows_columns]
  exact sortNet_apply_monotone 11 _

/-- The sorted columns are the columns rearranged. -/
theorem sortRows_perm (w : FVec Ideal S2048x512 .bf16) (q : Fin 512) :
    ∃ σ : Equiv.Perm (Fin (2 ^ 11)), columns (sortRows w) q = columns w q ∘ σ := by
  rw [sortRows_columns]
  exact Network.exists_perm _ _

end Cert.Swd
-- ==== Proof.Chain.lean ====
/-
  The kernel body is the chain of `Proof/Ops.lean`. Its named pieces begin and end between two operations of the chain,
  often in the middle of an exchange (two halves already apart, or rows already turned), so each piece is read here as a
  stretch of the chain on any rows `w`, and `body_eq` puts the stretches together.
-/
module

public import proofs.«01_k».proof.Proof.Ops
public import proofs.«01_k».proof.Proof.Gen.KernelIdeal.Frame

@[expose] public section

noncomputable section

namespace Cert.Swd

open Idealize.ShloMosaic Cert.KernelIdeal Cert.KernelIdeal.Gen

variable {F : FTy → Type} [FloatOps F]

/-- The body's start, to the middle of merge 1: the larger rows of its one exchange. -/
theorem piece6 (x y : Vec F S1x2048x3 .f32) (θ : Vec F S1x3x256 .f32) :
    k0_pay6 x θ y θ =
      greatest (cut (g := 64) (j := 16) rfl (scale (proj x y θ) (sgn 2#32))) := rfl

/-- The smaller rows of merge 1's exchange. -/
theorem piece7 (x y : Vec F S1x2048x3 .f32) (θ : Vec F S1x3x256 .f32) :
    k0_pay7 x θ y θ =
      add (least (cut (g := 64) (j := 16) rfl (scale (proj x y θ) (sgn 2#32)))) := rfl

/-- From there to the end of merge 2. -/
theorem piece8 (w : FVec F S2048x512 .bf16) :
    k0_pay8 rowNo (greatest (cut (g := 64) (j := 16) rfl w)) (add (least (cut (g := 64) (j := 16) rfl w))) =
      merge 2 (resign 2#32 4#32 (exch 0 w)) := rfl

/-- Merge 3, with the change of signs before it. -/
theorem piece10 (w : FVec F S2048x512 .bf16) :
    k0_pay10 rowNo w (k0_pay9 rowNo) (Scalar.ofBits .f32 0x3F800000#32) (Scalar.ofBits .f32 0xBF800000#32) =
      merge 3 (resign 4#32 8#32 w) := rfl

/-- Merge 4 as far as the larger rows of its last exchange. -/
theorem piece15 (w : FVec F S2048x512 .bf16) :
    k0_pay15 rowNo w (k0_pay11 rowNo) (Scalar.ofBits .f32 0x3F800000#32) (Scalar.ofBits .f32 0xBF800000#32) =
      greatest (cut (g := 64) (j := 16) rfl (exch 1 (exch 2 (exch 3 (resign 8#32 16#32 w))))) := rfl

/-- The smaller rows of merge 4's last exchange. -/
theorem piece16 (w : FVec F S2048x512 .bf16) :
    k0_pay16 rowNo w (k0_pay11 rowNo) (Scalar.ofBits .f32 0x3F800000#32) (Scalar.ofBits .f32 0xBF800000#32) =
      add (least (cut (g := 64) (j := 16) rfl (exch 1 (exch 2 (exch 3 (resign 8#32 16#32 w)))))) := rfl

/-- From there to the larger rows of merge 5's exchange on bit 2. -/
theorem piece20 (w : FVec F S2048x512 .bf16) :
    k0_pay20 rowNo (greatest (cut (g := 64) (j := 16) rfl w)) (add (least (cut (g := 64) (j := 16) rfl w))) =
      greatest (cut (g := 16) (j := 64) rfl (exch 3 (exch 4 (resign 16#32 32#32 (exch 0 w))))) := rfl

/-- The smaller rows of merge 5's exchange on bit 2. -/
theorem piece21 (w : FVec F S2048x512 .bf16) :
    k0_pay21 rowNo (greatest (cut (g := 64) (j := 16) rfl w)) (add (least (cut (g := 64) (j := 16) rfl w))) =
      add (least (cut (g := 16) (j := 64) rfl (exch 3 (exch 4 (resign 16#32 32#32 (exch 0 w)))))) := rfl

/-- From there to the larger rows of merge 6's exchange on bit 5. -/
theorem piece25 (w : FVec F S2048x512 .bf16) :
    k0_pay25 rowNo (greatest (cut (g := 16) (j := 64) rfl w)) (add (least (cut (g := 16) (j := 64) rfl w))) =
      greatest (cut (g := 2) (j := 512) rfl (resign 32#32 64#32 (merge 3 w))) := rfl

/-- The smaller rows of merge 6's exchange on bit 5. -/
theorem piece26 (w : FVec F S2048x512 .bf16) :
    k0_pay26 rowNo (greatest (cut (g := 16) (j := 64) rfl w)) (add (least (cut (g := 16) (j := 64) rfl w))) =
      add (least (cut (g := 2) (j := 512) rfl (resign 32#32 64#32 (merge 3 w)))) := rfl

/-- From there to the end of merge 6. -/
theorem piece27 (w : FVec F S2048x512 .bf16) :
    k0_pay27 (greatest (cut (g := 2) (j := 512) rfl w)) (add (least (cut (g := 2) (j := 512) rfl w))) =
      merge 6 w := rfl

/-- Merge 7 as far as the cut into pairs for its exchange on bit 3. -/
theorem piece29 (w : FVec F S2048x512 .bf16) :
    k0_pay29 rowNo w k0_pay28 =
      cut (g := 8) (j := 128) rfl (exch 4 (exch 5 (exch 6 (resign 64#32 128#32 w)))) := rfl

/-- The first blocks of those pairs. -/
theorem piece30 (w : FVec F S2048x512 .bf16) :
    k0_pay30 rowNo w k0_pay28 =
      low (cut (g := 8) (j := 128) rfl (exch 4 (exch 5 (exch 6 (resign 64#32 128#32 w))))) := rfl

/-- From there to the end of merge 7. -/
theorem piece31 (w : FVec F S2048x512 .bf16) :
    k0_pay31 (cut (g := 8) (j := 128) rfl w) (low (cut (g := 8) (j := 128) rfl w)) =
      merge 4 w := rfl

/-- Merge 8 as far as its exchange on bit 4. -/
theorem piece34 (w : FVec F S2048x512 .bf16) :
    k0_pay34 w (k0_pay32 rowNo) (k0_pay33 rowNo) =
      exch 4 (exch 5 (exch 6 (exch 7 (resign 128#32 256#32 w)))) := rfl

/-- The rest of merge 8. -/
theorem piece35 (w : FVec F S2048x512 .bf16) :
    k0_pay35 w =
      merge 4 w := rfl

/-- Merge 9 as far as the cut into pairs for its exchange on bit 5. -/
theorem piece38 (w : FVec F S2048x512 .bf16) :
    k0_pay38 w (k0_pay36 rowNo) (k0_pay37 rowNo) 0#32 =
      cut (g := 2) (j := 512) rfl (exch 6 (exch 7 (exch 8 (resign 256#32 512#32 w)))) := rfl

/-- The first blocks of those pairs. -/
theorem piece39 (w : FVec F S2048x512 .bf16) :
    k0_pay39 w (k0_pay36 rowNo) (k0_pay37 rowNo) 0#32 =
      low (cut (g := 2) (j := 512) rfl (exch 6 (exch 7 (exch 8 (resign 256#32 512#32 w))))) := rfl

/-- From there to the smaller rows of merge 9's last exchange. -/
theorem piece43 (w : FVec F S2048x512 .bf16) :
    k0_pay43 (cut (g := 2) (j := 512) rfl w) (low (cut (g := 2) (j := 512) rfl w)) =
      least (cut (g := 64) (j := 16) rfl (exch 1 (exch 2 (exch 3 (exch 4 (exch 5 w)))))) := rfl

/-- The larger rows of merge 9's last exchange. -/
theorem piece44 (w : FVec F S2048x512 .bf16) :
    k0_pay44 (cut (g := 2) (j := 512) rfl w) (low (cut (g := 2) (j := 512) rfl w)) =
      greatest (cut (g := 64) (j := 16) rfl (exch 1 (exch 2 (exch 3 (exch 4 (exch 5 w)))))) := rfl

/-- From there to the groups of 16 rows for merge 10's exchange on bit 8. -/
theorem piece45 (w : FVec F S2048x512 .bf16) :
    k0_pay45 rowNo (least (cut (g := 64) (j := 16) rfl w)) (greatest (cut (g := 64) (j := 16) rfl w)) =
      tile (exch 9 (resign 512#32 1024#32 (exch 0 w))) := rfl

/-- Those groups turned one way. -/
theorem piece46 (w : FVec F S2048x512 .bf16) :
    k0_pay46 rowNo (least (cut (g := 64) (j := 16) rfl w)) (greatest (cut (g := 64) (j := 16) rfl w)) =
      turn 14#32 (tile (exch 9 (resign 512#32 1024#32 (exch 0 w)))) := rfl

/-- Those groups turned the other way. -/
theorem piece47 (w : FVec F S2048x512 .bf16) :
    k0_pay47 rowNo (least (cut (g := 64) (j := 16) rfl w)) (greatest (cut (g := 64) (j := 16) rfl w)) =
      turn 2#32 (tile (exch 9 (resign 512#32 1024#32 (exch 0 w)))) := rfl

/-- From there to the cut into pairs for merge 10's exchange on bit 3. -/
theorem piece50 (w : FVec F S2048x512 .bf16) :
    k0_pay50 (tile w) (turn 14#32 (tile w)) (turn 2#32 (tile w)) k0_pay48 k0_pay49 =
      cut (g := 8) (j := 128) rfl (exch 4 (exch 5 (exch 6 (exch 7 (exch 8 w))))) := rfl

/-- The first blocks of those pairs. -/
theorem piece51 (w : FVec F S2048x512 .bf16) :
    k0_pay51 (tile w) (turn 14#32 (tile w)) (turn 2#32 (tile w)) k0_pay48 k0_pay49 =
      low (cut (g := 8) (j := 128) rfl (exch 4 (exch 5 (exch 6 (exch 7 (exch 8 w)))))) := rfl

/-- From there to the groups of 16 rows for merge 11's first exchange. -/
theorem piece52 (w : FVec F S2048x512 .bf16) :
    k0_pay52 rowNo (cut (g := 8) (j := 128) rfl w) (low (cut (g := 8) (j := 128) rfl w)) =
      tile (scale (merge 4 w) (sgn 1024#32)) := rfl

/-- Those groups turned; by 8 of 16, both ways are the same. -/
theorem piece53 (w : FVec F S2048x512 .bf16) :
    k0_pay53 rowNo (cut (g := 8) (j := 128) rfl w) (low (cut (g := 8) (j := 128) rfl w)) =
      turn 8#32 (tile (scale (merge 4 w) (sgn 1024#32))) := rfl

/-- From there to the groups of 16 rows for merge 11's exchange on bit 7. -/
theorem piece54 (w : FVec F S2048x512 .bf16) :
    k0_pay54 (tile w) (turn 8#32 (tile w)) 8#32 =
      tile (exch 8 (exch 9 (exch 10 w))) := rfl

/-- Those groups turned one way. -/
theorem piece55 (w : FVec F S2048x512 .bf16) :
    k0_pay55 (tile w) (turn 8#32 (tile w)) 8#32 =
      turn 15#32 (tile (exch 8 (exch 9 (exch 10 w)))) := rfl

/-- Those groups turned the other way. -/
theorem piece56 (w : FVec F S2048x512 .bf16) :
    k0_pay56 (tile w) (turn 8#32 (tile w)) 8#32 =
      turn 1#32 (tile (exch 8 (exch 9 (exch 10 w)))) := rfl

/-- From there to the larger rows of merge 11's exchange on bit 2. -/
theorem piece61 (w : FVec F S2048x512 .bf16) :
    k0_pay61 (tile w) (turn 15#32 (tile w)) (turn 1#32 (tile w)) k0_pay57 0#32 =
      greatest (cut (g := 16) (j := 64) rfl (exch 3 (exch 4 (exch 5 (exch 6 (exch 7 w)))))) := rfl

/-- The smaller rows of merge 11's exchange on bit 2. -/
theorem piece62 (w : FVec F S2048x512 .bf16) :
    k0_pay62 (tile w) (turn 15#32 (tile w)) (turn 1#32 (tile w)) k0_pay57 0#32 =
      add (least (cut (g := 16) (j := 64) rfl (exch 3 (exch 4 (exch 5 (exch 6 (exch 7 w))))))) := rfl

/-- From there to the end of the body: the last exchanges and the squared differences. -/
theorem piece1 (w : FVec F S2048x512 .bf16) :
    k0_pay1 (greatest (cut (g := 16) (j := 64) rfl w)) (add (least (cut (g := 16) (j := 64) rfl w))) =
      total (merge 3 w) := rfl

/-- What the body stores, from its three blocks: the squared differences of the sorted projections, summed. -/
theorem body_eq (x y : Vec F S1x2048x3 .f32) (θ : Vec F S1x3x256 .f32) :
    k0_pay1 (k0_pay61 (k0_pay88 x y θ) (k0_pay89 x y θ) (k0_pay90 x y θ) (k0_pay91 x y θ) 0#32)
        (k0_pay62 (k0_pay88 x y θ) (k0_pay89 x y θ) (k0_pay90 x y θ) (k0_pay91 x y θ) 0#32) =
      total (sortRows (proj (View.ld x r0_0) (View.ld y r0_0) (View.ld θ r0_1))) := by
  simp only [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91,
    piece6, piece7, piece8, piece10, piece15, piece16, piece20, piece21, piece25, piece26, piece27, piece29, piece30, piece31, piece34, piece35, piece38, piece39, piece43, piece44, piece45, piece46, piece47, piece50, piece51, piece52, piece53, piece54, piece55, piece56, piece61, piece62, piece1, sortRows, merge]

end Cert.Swd
-- ==== Proof.Block.lean ====
/-
  What the body stores, entry by entry: for direction `p`, the squared distance between the sorted projections of the two
  clouds' points.
-/
module

public import proofs.«01_k».proof.Proof.Sorted
public import proofs.«01_k».proof.Proof.Chain
public import Idealize.ShloMosaic.Lib.Pipeline.ValueKit

@[expose] public section

noncomputable section

namespace Cert.Swd

open Idealize.ShloMosaic Cert.KernelIdeal Cert.KernelIdeal.Gen SortNet

/-- A column sorted. -/
def sorted (u : Fin (2 ^ 11) → EReal) : Fin (2 ^ 11) → EReal := Network.apply (sortNet 11 false) u

/-- The sum of the squared differences of two columns, each sorted. -/
def gap (u v : Fin (2 ^ 11) → EReal) : EReal := ∑ i, (sorted u i - sorted v i) * (sorted u i - sorted v i)

/-- The column of direction `p` for the first cloud. -/
def left (p : Fin 256) : Fin 512 := ⟨p.val, by have := p.isLt; omega⟩

/-- The column of direction `p` for the second cloud. -/
def right (p : Fin 256) : Fin 512 := ⟨256 + p.val, by have := p.isLt; omega⟩

/-- The first cloud's columns are its points' products with the directions. -/
theorem columns_left (x y : Vec Ideal S1x2048x3 .f32) (θ : Vec Ideal S1x3x256 .f32) (p : Fin 256) (i : Fin (2 ^ 11)) :
    columns (proj x y θ) (left p) i = ∑ k : Fin 3, (x (ix3 0 (phys i) k) * θ (ix3 0 k p) : EReal) := by
  unfold columns proj left
  pointwise

/-- The second cloud's likewise. -/
theorem columns_right (x y : Vec Ideal S1x2048x3 .f32) (θ : Vec Ideal S1x3x256 .f32) (p : Fin 256) (i : Fin (2 ^ 11)) :
    columns (proj x y θ) (right p) i = ∑ k : Fin 3, (y (ix3 0 (phys i) k) * θ (ix3 0 k p) : EReal) := by
  unfold columns proj right
  pointwise

/-- The squared differences of sorted rows, summed, are the gap between the rows' columns. -/
theorem total_sortRows (w : FVec Ideal S2048x512 .bf16) (p : Fin 256) :
    total (sortRows w) (ix3 0 0 p) = gap (columns w (left p)) (columns w (right p)) := by
  unfold total gap sorted
  rw [← sortRows_columns, ← sortRows_columns]
  pointwise
  exact (physEquiv.sum_comp _).symm

/-- What the body stores for direction `p`. -/
theorem stored (x y : Vec Ideal S1x2048x3 .f32) (θ : Vec Ideal S1x3x256 .f32) (p : Fin 256) :
    out0_3 x y θ (ix3 0 0 p) =
      gap (fun i => ∑ k : Fin 3, (x (ix3 0 (phys i) k) * θ (ix3 0 k p) : EReal))
        (fun i => ∑ k : Fin 3, (y (ix3 0 (phys i) k) * θ (ix3 0 k p) : EReal)) := by
  unfold out0_3
  rw [body_eq]
  frame_out
  rw [total_sortRows]
  congr 1
  · exact funext fun i => columns_left x y θ p i
  · exact funext fun i => columns_right x y θ p i

end Cert.Swd
-- ==== Proof.Array.lean ====
/-
  The kernel's arrays. Before the launch the points of each cloud are laid out in the order of `Proof/Order.lean`; so grid
  point `t` finds batch `t` in its blocks, its points in that order, and what it writes back is batch `t`'s row of sums.
-/
module

public import proofs.«01_k».proof.Proof.Block

@[expose] public section

set_option maxRecDepth 16384

noncomputable section

namespace Cert.Swd

open Idealize.ShloMosaic Idealize.ShloMosaic.TcCoe Idealize.SL.Sem Cert.KernelIdeal Cert.KernelIdeal.Gen

/-- The sums of batch `b` and direction `p`, of two clouds and the directions. -/
def sums (x y : FVec Ideal S64x2048x3 .f32) (θ : FVec Ideal S64x256x3 .f32) (b : Fin 64) (p : Fin 256) : EReal :=
  gap (fun i => ∑ k : Fin 3, (x (ix3 b i k) * θ (ix3 b p k) : EReal))
    (fun i => ∑ k : Fin 3, (y (ix3 b i k) * θ (ix3 b p k) : EReal))

/-- A cloud's points laid out for the kernel. -/
def laid (x : FVec Ideal S64x2048x3 .f32) : FVec Ideal S64x2048x3 .f32 :=
  shapeCast S64x2048x3 (transpose S64x128x16x3 [0, 2, 1, 3] (shapeCast S64x16x128x3 x shapeCasts_S64x2048x3_S64x16x128x3)
    transposes_S64x16x128x3_S64x128x16x3_0_2_1_3) shapeCasts_S64x128x16x3_S64x2048x3

/-- Point `i` of a cloud lies in row `phys i`. -/
theorem laid_apply (x : FVec Ideal S64x2048x3 .f32) (b : Fin 64) (i : Fin (2 ^ 11)) (k : Fin 3) :
    laid x (ix3 b (phys i) k) = x (ix3 b i k) := by
  unfold laid
  have h1 : i.val % 128 < 128 := Nat.mod_lt _ (by decide)
  have h2 : i.val / 128 < 16 := by have := i.isLt; omega
  have e1 := shapeCast_apply x shapeCasts_S64x2048x3_S64x16x128x3 (ix4 b ⟨_, h2⟩ ⟨_, h1⟩ k) (ix3 b i k) (by
    rw [rowMajor_val4 _ 6144 384 3 rfl rfl rfl, rowMajor_val3 _ 6144 3 rfl rfl]
    simp only [ix4_0, ix4_1, ix4_2, ix4_3, ix3_0, ix3_1, ix3_2]
    omega)
  rw [← e1]
  refine (shapeCast_apply _ _ _ (ix4 b ⟨_, h1⟩ ⟨_, h2⟩ k) ?_).trans ?_
  · rw [rowMajor_val4 _ 6144 48 3 rfl rfl rfl, rowMajor_val3 _ 6144 3 rfl rfl]
    simp only [ix4_0, ix4_1, ix4_2, ix4_3, ix3_0, ix3_1, ix3_2, phys]
    omega
  · exact transpose_apply _ _ _ _ _ fun a => by fin_cases a <;> rfl

variable (m : (ℓ : Loc nD τ sig) → Buf (Elt Ideal) ℓ) (c : Dev nD)

/-- The first cloud as the launch finds it. -/
theorem entry_x : V m c main_v2 = laid (m ((c.tc : Thread nD τ).loc main_arg0)) := by
  show StableHlo.after hostOps0 (fun b => m (c, b)) (Proc.devRef .tc _) = _
  after_results
  rfl

/-- The second cloud as the launch finds it. -/
theorem entry_y : V m c main_v5 = laid (m ((c.tc : Thread nD τ).loc main_arg1)) := by
  show StableHlo.after hostOps0 (fun b => m (c, b)) (Proc.devRef .tc _) = _
  after_results
  rfl

/-- The directions as the launch finds them. -/
theorem entry_θ (b : Fin 64) (k : Fin 3) (p : Fin 256) :
    V m c main_v6 (ix3 b k p) = (m ((c.tc : Thread nD τ).loc main_arg2) : FVec Ideal S64x256x3 .f32) (ix3 b p k) := by
  show StableHlo.after hostOps0 (fun b => m (c, b)) (Proc.devRef .tc _) _ = _
  after_results
  exact transpose_apply _ _ _ _ _ fun a => by fin_cases a <;> rfl

/-- Grid point `t` works on batch `t`. -/
theorem index_t : ∀ t : Fin cfg0.N, win0_0.index t = ![t.val, 0, 0] ∧ win0_1.index t = ![t.val, 0, 0] ∧
    win0_2.index t = ![t.val, 0, 0] ∧ win0_3.index t = ![t.val, 0, 0] :=
  (by decide +kernel : ∀ t : Fin grid0.N, _)

/-- The batch of a grid point. -/
def batch (t : Fin cfg0.N) : Fin 64 := ⟨t.val, lt_of_lt_of_eq t.isLt N_0⟩

/-- The first cloud's block. -/
theorem block_x (t : Fin cfg0.N) (i : Fin (2 ^ 11)) (k : Fin 3) : iblk m c 0 t (ix3 0 (phys i) k) =
    (m ((c.tc : Thread nD τ).loc main_arg0) : FVec Ideal S64x2048x3 .f32) (ix3 (batch t) i k) := by
  refine Eq.trans ?_ ((congrFun (entry_x m c) _).trans (laid_apply _ (batch t) i k))
  blk_simp [iblk]
  refine congrArg _ ?_
  blk_ext [(index_t t).1, batch]

/-- The second cloud's block. -/
theorem block_y (t : Fin cfg0.N) (i : Fin (2 ^ 11)) (k : Fin 3) : iblk m c 1 t (ix3 0 (phys i) k) =
    (m ((c.tc : Thread nD τ).loc main_arg1) : FVec Ideal S64x2048x3 .f32) (ix3 (batch t) i k) := by
  refine Eq.trans ?_ ((congrFun (entry_y m c) _).trans (laid_apply _ (batch t) i k))
  blk_simp [iblk]
  refine congrArg _ ?_
  blk_ext [(index_t t).2.1, batch]

/-- The directions' block. -/
theorem block_θ (t : Fin cfg0.N) (k : Fin 3) (p : Fin 256) : iblk m c 2 t (ix3 0 k p) =
    (m ((c.tc : Thread nD τ).loc main_arg2) : FVec Ideal S64x256x3 .f32) (ix3 (batch t) p k) := by
  refine Eq.trans ?_ (entry_θ m c (batch t) k p)
  blk_simp [iblk]
  refine congrArg _ ?_
  blk_ext [(index_t t).2.2.1, batch]

/-- The array the launch leaves. -/
def result : FVec Ideal S64x1x256 .f32 := fun j =>
  sums (m ((c.tc : Thread nD τ).loc main_arg0)) (m ((c.tc : Thread nD τ).loc main_arg1))
    (m ((c.tc : Thread nD τ).loc main_arg2)) (j 0) (j 2)

/-- After the launch its array holds the sums of every batch and direction. -/
theorem final3 : (dats m 0 c).arrAt 3 cfg0.N = result m c := by
  refine (dats m 0 c).arrAt_eq_of_covers 3 _ (by decide +kernel) fun t hf y => ?_
  blk_simp
  rw [after0_3]
  obtain ⟨p, rfl⟩ : ∃ p : Fin 256, y = (ix3 0 0 p : S1x1x256.Idx) := ⟨y 2, by
    funext a
    fin_cases a
    · exact Subsingleton.elim (α := Fin 1) _ _
    · exact Subsingleton.elim (α := Fin 1) _ _
    · rfl⟩
  have e : (win0_3.blk t).view.emb (ix3 0 0 p : S1x1x256.Idx) = (ix3 (batch t) 0 p : S64x1x256.Idx) := by
    blk_ext [(index_t t).2.2.2, batch]
  refine (stored _ _ _ p).trans ?_
  rw [e]
  simp only [block_x, block_y, block_θ]
  rfl

end Cert.Swd
-- ==== Proof.Reference.lean ====
/-
  The reference, entry by entry: for batch `b` and direction `p`, the squared distance between the sorted projections of
  the two clouds' points.
-/
module

public import proofs.«01_k».proof.Proof.Block
public import proofs.«01_k».proof.Proof.Gen.ReferenceIdeal.Run
public import Idealize.ShloMosaic.Lib.SortFacts
public import Mathlib.Data.List.OfFn

@[expose] public section

set_option maxRecDepth 16384

noncomputable section

namespace Cert.Swd

open Idealize.ShloMosaic Cert.ReferenceIdeal Cert.ReferenceIdeal.Gen SortNet

/-- The reference's comparison of two entries. -/
theorem before_iff (a b : EReal) : (comparator_f32_d2 (F := Ideal) a b == 1#1) = decide (a < b) := by
  have e (c : Ideal .f32) : Scalar.select (FloatOps.cmpf (F := Ideal) (φ := .f32) CmpFPredicate.une c c)
      (FloatOps.ofBits (F := Ideal) FTy.f32 2143289344#32) (Scalar.select (FloatOps.cmpf (F := Ideal) (φ := .f32)
        CmpFPredicate.oeq c (FloatOps.ofBits FTy.f32 0#32)) (FloatOps.ofBits FTy.f32 0#32) c) = c := by
    simp only [Ideal.cmpf_def, Ideal.ofBits_def, Ideal.ofBits_zero_f32, Ideal.cmp, Scalar.select]
    by_cases h : c = 0 <;> simp [h]
  simp only [comparator_f32_d2, e, Ideal.cmpfTotal_def, Ideal.cmp, CmpDirection.ordered]
  by_cases h : a < b <;> simp [h]

/-- The absolute value of a number, to the power two, is the number's product with itself. -/
theorem abs_pow_two (x : EReal) :
    Ideal.pow (FloatOps.absf (F := Ideal) (φ := .f32) x) (Ideal.ofBits FTy.f32 1073741824#32) = x * x := by
  have h2 : Ideal.ofBits FTy.f32 1073741824#32 = ((2 : ℝ) : EReal) := by
    simp [Ideal.ofBits, Ideal.ieee, -EReal.coe_mul]; norm_num
  rw [h2]
  show Ideal.pow (max x (-x)) _ = _
  induction x using EReal.rec with
  | bot =>
    rw [EReal.neg_bot, max_eq_right bot_le, EReal.bot_mul_bot]
    exact if_pos (by norm_num)
  | top =>
    rw [EReal.neg_top, max_eq_left bot_le, EReal.top_mul_top]
    exact if_pos (by norm_num)
  | coe r =>
    rw [← EReal.coe_neg, ← EReal.coe_strictMono.monotone.map_max, ← EReal.coe_mul]
    show ((Real.rpow (max r (-r)) 2 : ℝ) : EReal) = _
    congr 1
    show |r| ^ (2 : ℝ) = r * r
    rw [Real.rpow_two, sq_abs, pow_two]

/-- The reference's projections. -/
theorem dot_apply (θ : FVec Ideal S64x256x3 .f32) (x : FVec Ideal S64x2048x3 .f32) (b : Fin 64) (p : Fin 256) (i : Fin 2048) :
    (Host.dotGeneral dot_S64x256x3_S64x2048x3_S64x256x2048_2_2_1_1_0_0 none θ x : FVec Ideal S64x256x2048 .f32) (ix3 b p i) =
      ∑ k : Fin 3, (θ (ix3 b p k) * x (ix3 b i k) : EReal) := by
  pointwise

/-- Two rearrangements of one column that both rise are the same. -/
theorem rising_unique {n : ℕ} (u : Fin n → EReal) (σ τ : Equiv.Perm (Fin n)) (hs : Monotone (u ∘ σ))
    (ht : Monotone (u ∘ τ)) : u ∘ σ = u ∘ τ := by
  refine List.ofFn_injective (List.Perm.eq_of_pairwise (le := (· ≤ ·)) (fun _ _ _ _ h h' => le_antisymm h h') ?_ ?_
    ((Equiv.Perm.ofFn_comp_perm σ u).trans (Equiv.Perm.ofFn_comp_perm τ u).symm))
  · exact List.pairwise_ofFn.2 fun _ _ h => hs h.le
  · exact List.pairwise_ofFn.2 fun _ _ h => ht h.le

/-- A sort by the order of a column's entries leaves any rearrangement of the column that rises. -/
theorem sortedFrom_eq {n : ℕ} (u v : Fin n → EReal) (before : Fin n → Fin n → Bool)
    (hb : ∀ k k', before k k' = decide (u k < u k')) (hm : Monotone v) (hv : ∃ σ : Equiv.Perm (Fin n), v = u ∘ σ)
    (i : Fin n) : u (sortedFrom before i) = v i := by
  obtain ⟨σ, rfl⟩ := hv
  refine congrFun (rising_unique u (Equiv.ofBijective _ ⟨sortedFrom_injective before, sortedFrom_surjective before⟩) σ ?_ hm) i
  refine monotone_iff_forall_lt.2 fun i j hij => ?_
  have := sortedFrom_noInversion before before
    (fun a b => by simp only [hb, decide_eq_true_eq, decide_eq_false_iff_not]; exact lt_asymm)
    (fun _ _ h => h) (fun a b c => by simp only [hb, decide_eq_false_iff_not, not_lt]; exact fun h h' => h'.trans h) i j hij
  rw [hb, decide_eq_false_iff_not, not_lt] at this
  exact this

/-- The reference's sort along the last axis. -/
theorem sort_apply (x : FVec Ideal S64x256x2048 .f32) (b : Fin 64) (p : Fin 256) (i : Fin 2048) :
    Host.sort S64x256x2048 2 comparator_f32_d2 x (ix3 b p i) = sorted (fun k => x (ix3 b p k)) i := by
  have h2 : 2 < S64x256x2048.rank := by decide
  have e (k : Fin 2048) : (ix3 b p i : S64x256x2048.Idx).along ⟨2, h2⟩ k = ix3 b p k := by
    funext a
    fin_cases a <;> rfl
  have h := sortedFrom_eq (fun k : Fin 2048 => x (ix3 b p k)) (sorted fun k => x (ix3 b p k))
    (fun k k' => comparator_f32_d2 (x (ix3 b p k)) (x (ix3 b p k')) == 1#1) (fun k k' => before_iff _ _)
    (sortNet_apply_monotone 11 _) (Network.exists_perm (sortNet 11 false) _) i
  rw [← h]
  unfold Host.sort
  rw [dif_pos h2]
  refine (congrArg x (e _)).trans ?_
  refine congrArg (fun before : Fin 2048 → Fin 2048 → Bool => x (ix3 b p (sortedFrom before i))) ?_
  exact funext fun k => funext fun k' => congrArg (· == 1#1) (congrArg₂ comparator_f32_d2 (congrArg x (e k)) (congrArg x (e k')))

/-- The powers of the differences of two arrays, summed along the last axis. -/
theorem powers_apply (X Y : FVec Ideal S64x256x2048 .f32) (b : Fin 64) (p : Fin 256) :
    Host.reduceAdd (Host.powf (Host.absf (subf X Y))
      (broadcastInDim S64x256x2048 ![] bcast_S_S64x256x2048 (constant S_ .f32 0x40000000#32)))
      (constant S_ .f32 0x00000000#32) reducesTo_S64x256x2048_S64x256_d2 h_S_ (ix2 b p) =
    ∑ i : Fin 2048, ((X (ix3 b p i) - Y (ix3 b p i)) * (X (ix3 b p i) - Y (ix3 b p i)) : EReal) := by
  pointwise [abs_pow_two]

/-- The reference's sum of powers for batch `b` and direction `p`. -/
theorem reference_apply (θ : FVec Ideal S64x256x3 .f32) (x y : FVec Ideal S64x2048x3 .f32) (b : Fin 64) (p : Fin 256) :
    Host.reduceAdd (Host.powf (Host.absf (subf
        (Host.sort S64x256x2048 2 comparator_f32_d2 (Host.dotGeneral dot_S64x256x3_S64x2048x3_S64x256x2048_2_2_1_1_0_0 none θ x))
        (Host.sort S64x256x2048 2 comparator_f32_d2 (Host.dotGeneral dot_S64x256x3_S64x2048x3_S64x256x2048_2_2_1_1_0_0 none θ y))))
      (broadcastInDim S64x256x2048 ![] bcast_S_S64x256x2048 (constant S_ .f32 0x40000000#32)))
      (constant S_ .f32 0x00000000#32) reducesTo_S64x256x2048_S64x256_d2 h_S_ (ix2 b p) =
    gap (fun i => ∑ k : Fin 3, (x (ix3 b i k) * θ (ix3 b p k) : EReal))
      (fun i => ∑ k : Fin 3, (y (ix3 b i k) * θ (ix3 b p k) : EReal)) := by
  rw [powers_apply]
  simp only [sort_apply, dot_apply, mul_comm (θ _)]
  rfl

end Cert.Swd
-- ==== Proof.Result.lean ====
/-
  The two programs end alike: from the 64 by 256 sums each takes the same mean over the directions, square root and mean
  over the batches.
-/
module

public import proofs.«01_k».proof.Proof.Array
public import proofs.«01_k».proof.Proof.Reference

@[expose] public section

set_option maxRecDepth 16384

noncomputable section

namespace Cert.Swd

open Idealize.ShloMosaic Idealize.ShloMosaic.TcCoe Idealize.SL.Sem

section Kernel

open Cert.KernelIdeal Cert.KernelIdeal.Gen

/-- The mean over the batches of the root of the mean over the directions. -/
def mean (v : FVec Ideal S64x256 .f32) : FVec Ideal S_ .f32 :=
  Host.divf (Host.reduceAdd (Host.sqrt (Host.divf
      (Host.reduceAdd v (constant S_ .f32 0x00000000#32) reducesTo_S64x256_S64_d1 h_S_)
      (broadcastInDim S64 ![] bcast_S_S64 (constant S_ .f32 0x43800000#32))))
    (constant S_ .f32 0x00000000#32) reducesTo_S64_S_d0 h_S_) (constant S_ .f32 0x42800000#32)

/-- The sums of every batch and direction. -/
def table (x y : FVec Ideal S64x2048x3 .f32) (θ : FVec Ideal S64x256x3 .f32) : FVec Ideal S64x256 .f32 :=
  fun j => sums x y θ (j 0) (j 1)

variable (m : (ℓ : Loc nD τ sig) → Buf (Elt Ideal) ℓ) (c : Dev nD)

/-- The launch's array, its middle axis dropped, is the table. -/
theorem result_table : shapeCast S64x256 (result m c) shapeCasts_S64x1x256_S64x256 =
    table (m ((c.tc : Thread nD τ).loc main_arg0)) (m ((c.tc : Thread nD τ).loc main_arg1))
      (m ((c.tc : Thread nD τ).loc main_arg2)) := by
  funext j
  refine (shapeCast_apply _ _ _ (ix3 (j 0) 0 (j 1)) ?_).trans rfl
  rw [rowMajor_val3 _ 256 256 rfl rfl, rowMajor_val2 _ 256 rfl]
  simp

/-- What the operations after the launch leave in the result. -/
theorem tail_result : Pipeline.afterTail₀ cfgs (dats m) 0 (V0 m) [hostOps1] c main_v14 =
    mean (table (m ((c.tc : Thread nD τ).loc main_arg0)) (m ((c.tc : Thread nD τ).loc main_arg1))
      (m ((c.tc : Thread nD τ).loc main_arg2))) := by
  have e : Pipeline.withArrays (cfgs 0).spec c (V0 m c) (fun w => (dats m 0 c).arrAt w (cfgs 0).N) (Proc.devRef .tc main_v7) =
      result m c := (Pipeline.withArrays_arr (cfgs 0).spec (by decide) c (V0 m c) _ (3 : Fin 4)).trans (final3 m c)
  rw [← result_table, ← e]
  show StableHlo.after hostOps1 _ (Proc.devRef .tc _) = _
  after_results
  rfl

/-- THE KERNEL'S RUN: it ends with the mean of the table, its arguments unchanged. -/
theorem kernel_run (g : Dev nD → PrngReg) : θ_run defs (onTc (τ := τ) main) ⟨m, fun _ => 0, g⟩ (fun r => ∀ c : Dev nD,
      r.2.mem ((c.tc : Thread nD τ).loc main_v14) =
        mean (table (m ((c.tc : Thread nD τ).loc main_arg0)) (m ((c.tc : Thread nD τ).loc main_arg1))
          (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v14 (Pipeline.mem_restRefs_of main_v14 (by decide) (by decide))).trans
    (tail_result m c), h.2 c⟩) (θ_run_and (run_main m g) (unchanged m g))

end Kernel

section Reference

open Cert.ReferenceIdeal Cert.ReferenceIdeal.Gen

/-- THE REFERENCE'S RUN: it ends with the mean of the same table, its arguments unchanged. -/
theorem reference_run (m : (ℓ : Loc nD τ sig) → Buf (Elt Ideal) ℓ) (g : Dev nD → PrngReg) :
    θ_run defs (onTc (τ := τ) main) ⟨m, fun _ => 0, g⟩ (fun r => ∀ c : Dev nD,
      r.2.mem ((c.tc : Thread nD τ).loc main_v14) =
        mean (table (m ((c.tc : Thread nD τ).loc main_arg0)) (m ((c.tc : Thread nD τ).loc main_arg1))
          (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ⟨(h c).1.trans (congrArg mean ?_), (h c).2⟩) (Value.run (F := Ideal) m g)
  funext j
  obtain ⟨b, p, rfl⟩ : ∃ (b : Fin 64) (p : Fin 256), j = ix2 b p := ⟨j 0, j 1, by funext a; fin_cases a <;> rfl⟩
  exact reference_apply _ _ _ b p

end Reference

end Cert.Swd
-- ==== Proof.lean ====
/-
  The proof of `Cert.Claim`: the three frames, `preserves` (no operation is rewritten), and the equality of the kernel's
  result with the reference's. The mathematics is in `Proof/`:

  * `Ops`       the operations of the kernel body, under names;
  * `Chain`     the body is the chain of those operations;
  * `Exchange`  each exchange of the chain, entry by entry;
  * `Order`     the order the rows are sorted in, and the signs;
  * `Sorted`    the chain sorts every column, as Batcher's bitonic network does;
  * `Block`     what one grid point stores;
  * `Array`     what the launch leaves in its array;
  * `Reference` the reference's sums;
  * `Result`    both programs' runs.
-/
module

public import proofs.«01_k».proof.Defs
public import proofs.«01_k».proof.Proof.Gen.Kernel.Frame
public import proofs.«01_k».proof.Proof.Result

@[expose] public section

noncomputable section

namespace Cert.Proof

open Idealize.ShloMosaic Idealize.SL.Sem Cert.Swd

/-- The reference terminates and leaves its arguments and every semaphore counter as they were: it declares no semaphore. -/
theorem reference_frame : Cert.quiescent_ReferenceIdeal := fun m g _ =>
  (θ_run Cert.ReferenceIdeal.defs _ _).mono (fun r h => ⟨fun c => (h c).2, sem_eq_zero_of_no_sems (by decide) r.2⟩)
    (reference_run m g)

/-- The kernel's result is the reference's: both are the mean of the same table. -/
theorem equal : Cert.algebraic_KernelIdeal_ReferenceIdeal := by
  intro m g m' g' _ hargs
  refine ⟨_, kernel_run m g, ?_⟩
  have h := reference_run m' g'
  simp only [fun c => (hargs c).1, fun c => (hargs c).2.1, fun c => (hargs c).2.2] at h ⊢
  exact h

/-- Every claim. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, equal⟩

end Cert.Proof

end
